-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_count" .f32 0x37272F05#32 ((1 / 100352 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x128x56x56 : Shape := ⟨4, ![32, 128, 56, 56]⟩
abbrev S512 : Shape := ⟨1, ![512]⟩
abbrev S128x512x1x1 : Shape := ⟨4, ![128, 512, 1, 1]⟩
abbrev S32x512x56x56 : Shape := ⟨4, ![32, 512, 56, 56]⟩
abbrev S_ : Shape := ⟨0, ![]⟩

class Facts : Prop where
  concatenates_S32x128x56x56_S32x128x56x56_S32x128x56x56_S32x128x56x56_S32x512x56x56_d1 : Shape.Concatenates [S32x128x56x56, S32x128x56x56, S32x128x56x56, S32x128x56x56] S32x512x56x56 1
  bcast_S_S32x512x56x56 : S_.BroadcastsInDim S32x512x56x56 (![] : Fin 0 → Fin S32x512x56x56.rank)
  reducesTo_S32x512x56x56_S_d0_1_2_3 : S32x512x56x56.ReducesTo [0, 1, 2, 3] S_
  h_S_ : 0 < S_.numel

variable [Facts]

def fn {F : FTy → Type} [FloatOps F] (main_arg0 : FVec F S32x128x56x56 .f32) (main_arg1 : FVec F S32x128x56x56 .f32) (main_arg2 : FVec F S32x128x56x56 .f32) (main_arg3 : FVec F S32x128x56x56 .f32) (main_arg4 : FVec F S512 .f32) (main_arg5 : FVec F S512 .f32) (main_arg6 : FVec F S128x512x1x1 .f32) : IVec S_ 1 :=
  let main_v0 : FVec F S32x512x56x56 .f32 := concatenate S32x512x56x56 1 [⟨S32x128x56x56, main_arg0⟩, ⟨S32x128x56x56, main_arg1⟩, ⟨S32x128x56x56, main_arg2⟩, ⟨S32x128x56x56, main_arg3⟩] concatenates_S32x128x56x56_S32x128x56x56_S32x128x56x56_S32x128x56x56_S32x512x56x56_d1
  let main_cst : FVec F S_ .f32 := constant S_ .f32 0x7F800000#32
  let main_v1 : FVec F S32x512x56x56 .f32 := broadcastInDim S32x512x56x56 ![] bcast_S_S32x512x56x56 main_cst
  let main_v2 : IVec S32x512x56x56 1 := cmpf .olt main_v0 main_v1
  let main_cst_0 : FVec F S_ .f32 := constant S_ .f32 0xFF800000#32
  let main_v3 : FVec F S32x512x56x56 .f32 := broadcastInDim S32x512x56x56 ![] bcast_S_S32x512x56x56 main_cst_0
  let main_v4 : IVec S32x512x56x56 1 := cmpf .ogt main_v0 main_v3
  let main_v5 : IVec S32x512x56x56 1 := andi main_v2 main_v4
  let main_c : IVec S_ 1 := constantI S_ 1 1#1
  let main_v6 : IVec S_ 1 := (fun x v => Host.reduce IntOp.andi x v reducesTo_S32x512x56x56_S_d0_1_2_3 h_S_) main_v5 main_c
  main_v6
-- ==== Kernel.lean ====
abbrev S32x128x56x56 : Shape := ⟨4, ![32, 128, 56, 56]⟩
abbrev S512 : Shape := ⟨1, ![512]⟩
abbrev S128x512x1x1 : Shape := ⟨4, ![128, 512, 1, 1]⟩
abbrev S32x128x3136 : Shape := ⟨3, ![32, 128, 3136]⟩
abbrev S4x128 : Shape := ⟨2, ![4, 128]⟩
abbrev S128x4 : Shape := ⟨2, ![128, 4]⟩
abbrev S128x512 : Shape := ⟨2, ![128, 512]⟩
abbrev S2x128x3136 : Shape := ⟨3, ![2, 128, 3136]⟩
abbrev S128x8 : Shape := ⟨2, ![128, 8]⟩
abbrev S128x1 : Shape := ⟨2, ![128, 1]⟩
abbrev S128 : Shape := ⟨1, ![128]⟩
abbrev S128x3136 : Shape := ⟨2, ![128, 3136]⟩
abbrev S1x128x3136 : Shape := ⟨3, ![1, 128, 3136]⟩
abbrev S128x128 : Shape := ⟨2, ![128, 128]⟩

abbrev nBuf : Space → Nat
  | .hbm => 17
  | .vmem => 14
  | .smem => 0
  | _ => 0

abbrev bufTy : (tb : Table) → Fin (tcTables nBuf tb) → BufTy
  | .hbm, ⟨0, _⟩ => ⟨S32x128x56x56, .f32⟩
  | .hbm, ⟨1, _⟩ => ⟨S32x128x56x56, .f32⟩
  | .hbm, ⟨2, _⟩ => ⟨S32x128x56x56, .f32⟩
  | .hbm, ⟨3, _⟩ => ⟨S32x128x56x56, .f32⟩
  | .hbm, ⟨4, _⟩ => ⟨S512, .f32⟩
  | .hbm, ⟨5, _⟩ => ⟨S512, .f32⟩
  | .hbm, ⟨6, _⟩ => ⟨S128x512x1x1, .f32⟩
  | .hbm, ⟨7, _⟩ => ⟨S32x128x3136, .f32⟩
  | .hbm, ⟨8, _⟩ => ⟨S32x128x3136, .f32⟩
  | .hbm, ⟨9, _⟩ => ⟨S32x128x3136, .f32⟩
  | .hbm, ⟨10, _⟩ => ⟨S32x128x3136, .f32⟩
  | .hbm, ⟨11, _⟩ => ⟨S4x128, .f32⟩
  | .hbm, ⟨12, _⟩ => ⟨S128x4, .f32⟩
  | .hbm, ⟨13, _⟩ => ⟨S4x128, .f32⟩
  | .hbm, ⟨14, _⟩ => ⟨S128x4, .f32⟩
  | .hbm, ⟨15, _⟩ => ⟨S128x512, .f32⟩
  | .hbm, ⟨16, _⟩ => ⟨S32x128x3136, .f32⟩
  | .local _ .vmem, ⟨0, _⟩ => ⟨S2x128x3136, .f32⟩
  | .local _ .vmem, ⟨1, _⟩ => ⟨S2x128x3136, .f32⟩
  | .local _ .vmem, ⟨2, _⟩ => ⟨S2x128x3136, .f32⟩
  | .local _ .vmem, ⟨3, _⟩ => ⟨S2x128x3136, .f32⟩
  | .local _ .vmem, ⟨4, _⟩ => ⟨S2x128x3136, .f32⟩
  | .local _ .vmem, ⟨5, _⟩ => ⟨S2x128x3136, .f32⟩
  | .local _ .vmem, ⟨6, _⟩ => ⟨S2x128x3136, .f32⟩
  | .local _ .vmem, ⟨7, _⟩ => ⟨S2x128x3136, .f32⟩
  | .local _ .vmem, ⟨8, _⟩ => ⟨S128x4, .f32⟩
  | .local _ .vmem, ⟨9, _⟩ => ⟨S128x4, .f32⟩
  | .local _ .vmem, ⟨10, _⟩ => ⟨S128x512, .f32⟩
  | .local _ .vmem, ⟨11, _⟩ => ⟨S2x128x3136, .f32⟩
  | .local _ .vmem, ⟨12, _⟩ => ⟨S2x128x3136, .f32⟩
  | .local _ .vmem, ⟨13, _⟩ => ⟨S128x8, .f32⟩
  | _, _ => ⟨S32x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S2x128x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x128x3136 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x128x3136 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x128x3136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x128x3136 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "inv_count" => some ((1 / 100352 : ℝ) : EReal)
  | _ => none
-- ==== ReferenceIdeal.lean ====
abbrev S32x128x56x56 : Shape := ⟨4, ![32, 128, 56, 56]⟩
abbrev S512 : Shape := ⟨1, ![512]⟩
abbrev S128x512x1x1 : Shape := ⟨4, ![128, 512, 1, 1]⟩
abbrev S32x512x56x56 : Shape := ⟨4, ![32, 512, 56, 56]⟩
abbrev S_ : Shape := ⟨0, ![]⟩
abbrev S1x512x1x1 : Shape := ⟨4, ![1, 512, 1, 1]⟩
abbrev S128x512 : Shape := ⟨2, ![128, 512]⟩
abbrev S32x56x56x128 : Shape := ⟨4, ![32, 56, 56, 128]⟩
abbrev S32x128x3136 : Shape := ⟨3, ![32, 128, 3136]⟩

abbrev nBuf : Space → Nat
  | .hbm => 57
  | .vmem => 0
  | .smem => 0
  | _ => 0

abbrev bufTy : (tb : Table) → Fin (tcTables nBuf tb) → BufTy
  | .hbm, ⟨0, _⟩ => ⟨S32x128x56x56, .f32⟩
  | .hbm, ⟨1, _⟩ => ⟨S32x128x56x56, .f32⟩
  | .hbm, ⟨2, _⟩ => ⟨S32x128x56x56, .f32⟩
  | .hbm, ⟨3, _⟩ => ⟨S32x128x56x56, .f32⟩
  | .hbm, ⟨4, _⟩ => ⟨S512, .f32⟩
  | .hbm, ⟨5, _⟩ => ⟨S512, .f32⟩
  | .hbm, ⟨6, _⟩ => ⟨S128x512x1x1, .f32⟩
  | .hbm, ⟨7, _⟩ => ⟨S32x512x56x56, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .i32⟩
  | .hbm, ⟨14, _⟩ => ⟨S_, .f32⟩
  | .hbm, ⟨15, _⟩ => ⟨S512, .f32⟩
  | .hbm, ⟨16, _⟩ => ⟨S1x512x1x1, .f32⟩
  | .hbm, ⟨17, _⟩ => ⟨S_, .f32⟩
  | .hbm, ⟨18, _⟩ => ⟨S1x512x1x1, .f32⟩
  | .hbm, ⟨19, _⟩ => ⟨S1x512x1x1, .f32⟩
  | .hbm, ⟨20, _⟩ => ⟨S32x512x56x56, .f32⟩
  | .hbm, ⟨21, _⟩ => ⟨S32x512x56x56, .f32⟩
  | .hbm, ⟨22, _⟩ => ⟨S32x512x56x56, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S512, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S512, .f32⟩
  | .hbm, ⟨40, _⟩ => ⟨S512, .f32⟩
  | .hbm, ⟨41, _⟩ => ⟨S1x512x1x1, .f32⟩
  | .hbm, ⟨42, _⟩ => ⟨S512, .f32⟩
  | .hbm, ⟨43, _⟩ => ⟨S512, .f32⟩
  | .hbm, ⟨44, _⟩ => ⟨S512, .f32⟩
  | .hbm, ⟨45, _⟩ => ⟨S1x512x1x1, .f32⟩
  | .hbm, ⟨46, _⟩ => ⟨S32x512x56x56, .f32⟩
  | .hbm, ⟨47, _⟩ => ⟨S32x512x56x56, .f32⟩
  | .hbm, ⟨48, _⟩ => ⟨S32x512x56x56, .f32⟩
  | .hbm, ⟨49, _⟩ => ⟨S32x512x56x56, .f32⟩
  | .hbm, ⟨50, _⟩ => ⟨S_, .f32⟩
  | .hbm, ⟨51, _⟩ => ⟨S32x512x56x56, .f32⟩
  | .hbm, ⟨52, _⟩ => ⟨S32x512x56x56, .f32⟩
  | .hbm, ⟨53, _⟩ => ⟨S128x512, .f32⟩
  | .hbm, ⟨54, _⟩ => ⟨S32x56x56x128, .f32⟩
  | .hbm, ⟨55, _⟩ => ⟨S32x128x56x56, .f32⟩
  | .hbm, ⟨56, _⟩ => ⟨S32x128x3136, .f32⟩
  | _, _ => ⟨S32x128x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v4 : Ref sig .tc := ⟨.hbm, 35, rfl⟩
abbrev main_cst_1 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_2 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩

abbrev nD : Nat := 1
abbrev τ : Topo := Topo.v7x

variable {F : FTy → Type} [FloatOps F]
-- ==== Proof.Sums.lean ====
/-
  The arithmetic of one statistics step, element by element. A block is two images of one group of 128 channels, its
  3136 pixels laid out in one row. For each channel the kernel adds to a running total the sum of the block's pixels,
  and to another one the sum of their squares. `chanSum` is the first kind of sum, and `step0 … step7` say that each of
  the eight column updates of the kernel is "old column plus channel sum".
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.Math
open Cert.KernelIdeal Cert.KernelIdeal.Gen

/-- A block of two images of 128 channels. -/
abbrev Block := Vec Ideal S2x128x3136 .f32

/-- The sum of channel `ch` over both images and all pixels of a block. -/
def chanSum (x : Block) (ch : Fin 128) : EReal := ∑ b : Fin 2, ∑ q : Fin 3136, x (ix3 b ch q)

/-- The reduction over the first and the last axis keeps exactly the channel. -/
theorem drop_iff (h : S2x128x3136.Reduces [0, 2] S128) (j : S128.Idx) (i : S2x128x3136.Idx) :
    h.drop i = j ↔ ∃ k : Fin 2 × Fin 3136, (ix3 k.1 (j 0) k.2 : S2x128x3136.Idx) = i := by
  constructor
  · intro e
    refine ⟨(i 0, i 2), ?_⟩
    subst e
    funext a
    apply Fin.ext
    match a with
    | ⟨0, _⟩ => rfl
    | ⟨1, _⟩ => rfl
    | ⟨2, _⟩ => rfl
  · rintro ⟨k, rfl⟩
    funext a
    apply Fin.ext
    match a with
    | ⟨0, _⟩ => rfl

/-- The kernel's reduction over images and pixels is the channel sum. -/
theorem reduce_eq (h : S2x128x3136.Reduces [0, 2] S128) (x : Block) (ch : Fin 128) :
    Ideal.reduceAdd h x (ix1 ch) = chanSum x ch := by
  unfold Ideal.reduceAdd chanSum
  rw [Finset.sum_filter_eq_sum_of_fiber _ (fun k : Fin 2 × Fin 3136 => (ix3 k.1 ch k.2 : S2x128x3136.Idx))
    (fun _ _ e => Prod.ext (congrFun e 0) (congrFun e 2)) (drop_iff h (ix1 ch)), Fintype.sum_prod_type]

/-- The elementwise square of a block. -/
def sq (x : Block) : Block := fun i => x i * x i

section Steps
variable (x : Block) (a : Vec Ideal S128x1 .f32) (ch : Fin 128) (u : Fin 1)

/-! The eight column updates, in the order of the columns: sums in columns 0 to 3, sums of squares in columns 4 to 7. -/

theorem step0 : k0_pay5 x a (ix2 ch u) = a (ix2 ch u) + chanSum x ch := by
  pointwise [k0_pay5, k0_pay4, reduce_eq]

theorem step1 : k0_pay8 x a (ix2 ch u) = a (ix2 ch u) + chanSum x ch := by
  pointwise [k0_pay8, k0_pay7, reduce_eq]

theorem step2 : k0_pay12 x a (ix2 ch u) = a (ix2 ch u) + chanSum x ch := by
  pointwise [k0_pay12, k0_pay11, reduce_eq]

theorem step3 : k0_pay15 x a (ix2 ch u) = a (ix2 ch u) + chanSum x ch := by
  pointwise [k0_pay15, k0_pay14, reduce_eq]

theorem step4 : k0_pay6 x a (ix2 ch u) = a (ix2 ch u) + chanSum (sq x) ch := by
  pointwise [k0_pay6, k0_pay4, reduce_eq]
  rfl

theorem step5 : k0_pay10 (k0_pay9 x a) (ix2 ch u) = a (ix2 ch u) + chanSum (sq x) ch := by
  pointwise [k0_pay9, k0_pay10, k0_pay7, reduce_eq]
  rfl

theorem step6 : k0_pay13 x a (ix2 ch u) = a (ix2 ch u) + chanSum (sq x) ch := by
  pointwise [k0_pay13, k0_pay11, reduce_eq]
  rfl

theorem step7 : k0_pay2 a (k0_pay16 x) (ix2 ch u) = a (ix2 ch u) + chanSum (sq x) ch := by
  pointwise [k0_pay2, k0_pay16, k0_pay14, reduce_eq]
  rfl

end Steps

/-- What one statistics step adds to column `k` of channel `ch`: the channel sum of input `k` for `k < 4`, and of the
    square of input `k - 4` for the other columns. -/
def colTerm (x : Fin 4 → Block) (ch : Fin 128) (k : Fin 8) : EReal :=
  if h : k.val < 4 then chanSum (x ⟨k.val, h⟩) ch else chanSum (sq (x ⟨k.val - 4, by omega⟩)) ch

/-- The eight stores of one statistics step over the old contents `old`, last first. -/
abbrev columns (old : Vec Ideal S128x8 .f32) (x : Fin 4 → Block) : List (View.Piece (Elt Ideal) S128x8 .f32) :=
  [⟨Rect.unit ![0, 7] ![128, 1] inb_S128x8_S128x1_0_7,
      k0_pay2 (View.ld old (Rect.unit ![0, 7] ![128, 1] inb_S128x8_S128x1_0_7)) (k0_pay16 (x 3))⟩,
    ⟨Rect.unit ![0, 3] ![128, 1] inb_S128x8_S128x1_0_3,
      k0_pay15 (x 3) (View.ld old (Rect.unit ![0, 3] ![128, 1] inb_S128x8_S128x1_0_3))⟩,
    ⟨Rect.unit ![0, 6] ![128, 1] inb_S128x8_S128x1_0_6,
      k0_pay13 (x 2) (View.ld old (Rect.unit ![0, 6] ![128, 1] inb_S128x8_S128x1_0_6))⟩,
    ⟨Rect.unit ![0, 2] ![128, 1] inb_S128x8_S128x1_0_2,
      k0_pay12 (x 2) (View.ld old (Rect.unit ![0, 2] ![128, 1] inb_S128x8_S128x1_0_2))⟩,
    ⟨Rect.unit ![0, 5] ![128, 1] inb_S128x8_S128x1_0_5,
      k0_pay10 (k0_pay9 (x 1) (View.ld old (Rect.unit ![0, 5] ![128, 1] inb_S128x8_S128x1_0_5)))⟩,
    ⟨Rect.unit ![0, 1] ![128, 1] inb_S128x8_S128x1_0_1,
      k0_pay8 (x 1) (View.ld old (Rect.unit ![0, 1] ![128, 1] inb_S128x8_S128x1_0_1))⟩,
    ⟨Rect.unit ![0, 4] ![128, 1] inb_S128x8_S128x1_0_4,
      k0_pay6 (x 0) (View.ld old (Rect.unit ![0, 4] ![128, 1] inb_S128x8_S128x1_0_4))⟩,
    ⟨Rect.unit ![0, 0] ![128, 1] inb_S128x8_S128x1_0_0,
      k0_pay5 (x 0) (View.ld old (Rect.unit ![0, 0] ![128, 1] inb_S128x8_S128x1_0_0))⟩]

/-- A column of width one placed in the accumulator: row `ch` of column `k`. -/
theorem place (k : Nat) (hk : k < 8) (inb : ∀ a, ![0, k] a + ![128, 1] a ≤ S128x8.size a) (ch : Fin 128) (u : Fin 1) :
    (Rect.unit (s := S128x8) ![0, k] ![128, 1] inb).emb (ix2 ch u) = (ix2 ch ⟨k, hk⟩ : S128x8.Idx) := by
  funext a
  apply Fin.ext
  match a with
  | ⟨0, _⟩ => show 0 + 1 * ch.val = ch.val; omega
  | ⟨1, _⟩ => show k + 1 * u.val = k; omega

/-- A column store whose entries are "old entry plus the step's term" is that column of the accumulator's new contents. -/
theorem column (old : Vec Ideal S128x8 .f32) (x : Fin 4 → Block) (k : Nat) (hk : k < 8)
    (inb : ∀ a, ![0, k] a + ![128, 1] a ≤ S128x8.size a) (pay : Vec Ideal S128x1 .f32) (y : Block)
    (h : ∀ r u, pay (ix2 r u) = View.ld old (Rect.unit (s := S128x8) ![0, k] ![128, 1] inb) (ix2 r u) + chanSum y r)
    (hy : ∀ r, colTerm x r ⟨k, hk⟩ = chanSum y r) (z : S128x1.Idx) :
    pay z = (fun y : S128x8.Idx => old y + colTerm x (y 0) (y 1)) ((Rect.unit (s := S128x8) ![0, k] ![128, 1] inb).emb z) := by
  obtain ⟨r, u, rfl⟩ : ∃ (r : Fin 128) (u : Fin 1), z = ix2 r u := ⟨z 0, z 1, eq_ix2 z⟩
  rw [place k hk]
  show _ = old (ix2 r ⟨k, hk⟩) + colTerm x r ⟨k, hk⟩
  rw [hy, h, ← place k hk inb r u]
  rfl

/-- The eight stores of a step leave, in every cell, the old value plus the step's term, whatever was stored before. -/
theorem columns_apply (old : Vec Ideal S128x8 .f32) (x : Fin 4 → Block) (L : List (View.Piece (Elt Ideal) S128x8 .f32))
    (ch : Fin 128) (k : Fin 8) :
    View.canon (columns old x ++ L) (ix2 ch k) = old (ix2 ch k) + colTerm x ch k := by
  refine View.canon_append_of_piecesOf (fun y => old y + colTerm x (y 0) (y 1)) L (columns old x)
    ⟨?_, ?_, ?_, ?_, ?_, ?_, ?_, ?_, trivial⟩
    (ix2 ch k) (View.cover_of_tiledL (columns old x) S128x1.size (by sl_kernel_rfl) _)
  · exact column old x 7 (by omega) _ _ _ (step7 (x 3) _) fun _ => dif_neg (by decide)
  · exact column old x 3 (by omega) _ _ _ (step3 (x 3) _) fun _ => dif_pos (by decide)
  · exact column old x 6 (by omega) _ _ _ (step6 (x 2) _) fun _ => dif_neg (by decide)
  · exact column old x 2 (by omega) _ _ _ (step2 (x 2) _) fun _ => dif_pos (by decide)
  · exact column old x 5 (by omega) _ _ _ (step5 (x 1) _) fun _ => dif_neg (by decide)
  · exact column old x 1 (by omega) _ _ _ (step1 (x 1) _) fun _ => dif_pos (by decide)
  · exact column old x 4 (by omega) _ _ _ (step4 (x 0) _) fun _ => dif_neg (by decide)
  · exact column old x 0 (by omega) _ _ _ (step0 (x 0) _) fun _ => dif_pos (by decide)

end Cert.KernelIdeal.Math
-- ==== Proof.Scratch.lean ====
/-
  What the statistics accumulator holds during the run. The first sixteen grid points each add one pair of images; the
  other sixteen only read. So after point `n < 16` column `k` of channel `ch` is the sum of the terms of points `0 … n`,
  and from point 15 on it is the sum over all sixteen pairs.
-/
module

public import proofs.«01_k».proof.Proof.Sums

@[expose] public section

set_option maxRecDepth 16384

noncomputable section

open Idealize.ShloMosaic Idealize.ShloMosaic.TcCoe Idealize.SL.Sem

namespace Cert.KernelIdeal.Math
open Cert.KernelIdeal Cert.KernelIdeal.Gen

variable (m : (ℓ : Loc nD τ sig) → Buf (Elt Ideal) ℓ) (c : Dev nD)

/-- The blocks of the four image inputs at grid point `n` (any block where there is no such point). -/
def blocks (n : ℕ) : Fin 4 → Block :=
  if h : n < cfg0.N then ![iblk m c 0 ⟨n, h⟩, iblk m c 1 ⟨n, h⟩, iblk m c 2 ⟨n, h⟩, iblk m c 3 ⟨n, h⟩] else fun _ _ => 0

theorem blocks_eq (t : Fin cfg0.N) : ![iblk m c 0 t, iblk m c 1 t, iblk m c 2 t, iblk m c 3 t] = blocks m c t.val := by
  unfold blocks
  rw [dif_pos t.isLt]

/-- The first point starts from zeros. -/
theorem first (t : Fin cfg0.N) (h : t.val = 0) (ch : Fin 128) (k : Fin 8) :
    (outsAt0 m c t.val t.isLt).2 (ix2 ch k) = colTerm (blocks m c t.val) ch k := by
  rw [outsAt0_A m c t (by omega) (by omega) (by omega)]
  frame_open
  simp (disch := decide) only [↓ View.readCov_skip, ↓ View.readCov_cons_toLoadRect, ↓ View.readCov_fill]
  frame_out
  refine (columns_apply (k0_pay1 (F := Ideal)) ![iblk m c 0 t, iblk m c 1 t, iblk m c 2 t, iblk m c 3 t] _ ch k).trans ?_
  rw [blocks_eq]
  pointwise [k0_pay1]

/-- A later point of the first half adds its term. -/
theorem next (t : Fin cfg0.N) (h0 : ¬t.val = 0) (h : t.val < 16) (ch : Fin 128) (k : Fin 8) :
    (outsAt0 m c t.val t.isLt).2 (ix2 ch k)
      = (outsAt0 m c (t.val - 1) (by omega)).2 (ix2 ch k) + colTerm (blocks m c t.val) ch k := by
  rw [outsAt0_B m c t (by omega) (by omega) (by omega)]
  frame_open
  simp (disch := decide) only [↓ View.readCov_skip, ↓ View.readCov_cons_toLoadRect, ↓ View.readCov_fill]
  frame_out
  simp only [read_unread_whole]
  refine (columns_apply _ ![iblk m c 0 t, iblk m c 1 t, iblk m c 2 t, iblk m c 3 t] [] ch k).trans ?_
  rw [blocks_eq]

/-- A point of the second half leaves the accumulator as it is. -/
theorem kept (t : Fin cfg0.N) (h : 16 ≤ t.val) :
    (outsAt0 m c t.val t.isLt).2 = (outsAt0 m c (t.val - 1) (by omega)).2 := by
  have hN : t.val < 32 := lt_of_lt_of_eq t.isLt N_0
  rw [outsAt0_C m c t (by omega) (by omega) h]
  rfl

/-- The accumulator during the first half. -/
theorem during (ch : Fin 128) (k : Fin 8) : ∀ (n : ℕ) (hn : n < cfg0.N), n < 16 →
    (outsAt0 m c n hn).2 (ix2 ch k) = ∑ s ∈ Finset.range (n + 1), colTerm (blocks m c s) ch k
  | 0, hn, _ => by
    rw [Finset.sum_range_one]
    exact first m c ⟨0, hn⟩ rfl ch k
  | n + 1, hn, h => by
    rw [Finset.sum_range_succ, ← during ch k n (by omega) (by omega)]
    exact next m c ⟨n + 1, hn⟩ (Nat.succ_ne_zero n) h ch k

/-- The accumulator from point 15 on: the terms of all sixteen points of the first half. -/
theorem total (ch : Fin 128) (k : Fin 8) : ∀ (n : ℕ) (hn : n < cfg0.N), 15 ≤ n →
    (outsAt0 m c n hn).2 (ix2 ch k) = ∑ s ∈ Finset.range 16, colTerm (blocks m c s) ch k := by
  intro n
  induction n with
  | zero => intro _ h; omega
  | succ n ih =>
    intro hn h
    rcases Nat.lt_or_ge n 15 with h' | h'
    · obtain rfl : n = 14 := by omega
      exact during m c ch k 15 hn (by omega)
    · rw [← ih (by omega) h']
      exact congrFun (kept m c ⟨n + 1, hn⟩ (by show 16 ≤ n + 1; omega)) _

end Cert.KernelIdeal.Math
-- ==== Proof.Spec.lean ====
/-
  The mathematics of the layer, apart from any program. Four inputs of 32 images, 128 channels and 56 × 56 pixels stand
  for one input of 512 channels: channel `k` of input `j` is channel `128 j + k`. Each channel is normalised by its mean
  and its variance over all images and pixels, scaled, shifted and rectified; then the 512 channels are mixed to 128.
-/
module

public import Idealize.ShloMosaic.Lib.Pointwise

@[expose] public section

noncomputable section

open Idealize.ShloMosaic

namespace Cert.Norm

/-- One input. -/
abbrev Input := Vec Ideal (⟨4, ![32, 128, 56, 56]⟩ : Shape) .f32
/-- One number for each of the 512 channels. -/
abbrev PerChannel := Vec Ideal (⟨1, ![512]⟩ : Shape) .f32
/-- The mixing weights. -/
abbrev Weights := Vec Ideal (⟨4, ![128, 512, 1, 1]⟩ : Shape) .f32

/-- Channel `k` of input `j` among the 512 channels. -/
abbrev chan (j : Fin 4) (k : Fin 128) : Fin 512 := ⟨128 * j.val + k.val, by omega⟩

/-- The elementwise square. -/
def square (y : Input) : Input := fun i => y i * y i

/-- The sum of channel `k` over all images and pixels. -/
def total (y : Input) (k : Fin 128) : EReal := ∑ n : Fin 32, ∑ a : Fin 56, ∑ b : Fin 56, y (ix4 n k a b)

/-- The reciprocal of the number of elements of one channel, `1 / (32 · 56 · 56)`. -/
def invCount : EReal := ((1 / 100352 : ℝ) : EReal)

/-- The small constant added to the variance. -/
def eps : EReal := Ideal.ofBits .f32 0x3727C5AC#32

/-- The mean of channel `k`. -/
def mean (y : Input) (k : Fin 128) : EReal := total y k * invCount

/-- The variance as the mean of the squares less the square of the mean. -/
def varBySquares (y : Input) (k : Fin 128) : EReal := total (square y) k * invCount - mean y k * mean y k

/-- The variance as the mean of the squared distances from the mean. -/
def varByDistance (y : Input) (k : Fin 128) : EReal :=
  total (square fun i => y i - mean y k) k * invCount

/-- The scale of a channel whose variance is `v`. -/
def scale (g : EReal) (v : EReal) : EReal := g * Ideal.rsqrt (v + eps)

/-- The mixed channels: output channel `o` of image `n` at pixel `(a, b)`, with scales `A` and shifts `B`. -/
def mixed (A B : Fin 4 → Fin 128 → EReal) (x : Fin 4 → Input) (w : Weights) (n : Fin 32) (o : Fin 128) (a b : Fin 56) : EReal :=
  ∑ j : Fin 4, ∑ k : Fin 128, w (ix4 o (chan j k) 0 0) * max (x j (ix4 n k a b) * A j k + B j k) 0

end Cert.Norm
-- ==== Proof.Conv.lean ====
/-
  The arithmetic of the second phase on one block. With a scale and a shift for each channel, the kernel takes
  `max (x * scale + shift) 0` of each of the four image inputs and mixes the channels by four 128 × 128 slices of the
  weight matrix. `slab` is that number for one output channel and one pixel; `slab0` and `slab1` read it off the two
  stores of a block, one per image. `scaleOf` and `shiftOf` are the scale and shift the kernel finds from the accumulator.
-/
module

public import proofs.«01_k».proof.Proof.Sums
public import proofs.«01_k».proof.Proof.Spec

@[expose] public section

set_option maxRecDepth 16384

noncomputable section

open Idealize.ShloMosaic Idealize.ShloMosaic.TcCoe Idealize.SL.Sem

namespace Cert.KernelIdeal.Math
open Cert.KernelIdeal Cert.KernelIdeal.Gen
open Cert.Norm (invCount eps)

/-- One image of 128 channels, with a leading axis of length one. -/
abbrev Image := Vec Ideal S1x128x3136 .f32

/-- Output channel `o`, pixel `q`: the weighted sum of the rectified, scaled and shifted inputs. -/
def slab (A B : Vec Ideal S128x4 .f32) (x : Fin 4 → Image) (w : Fin 4 → Vec Ideal S128x128 .f32) (o : Fin 128) (q : Fin 3136) : EReal :=
  ∑ j : Fin 4, ∑ k : Fin 128, w j (ix2 o k) * max (x j (ix3 0 k q) * A (ix2 k j) + B (ix2 k j)) 0

/-- The store of the second image. -/
theorem slab1 (A B : Vec Ideal S128x4 .f32) (x : Fin 4 → Image) (w : Fin 4 → Vec Ideal S128x128 .f32) (u : Fin 1) (o : Fin 128) (q : Fin 3136) :
    k0_pay3 A B (k0_pay24 A B (x 0) (w 0) (x 1) (w 1)) (k0_pay25 A B (x 2)) (w 2) (x 3) (w 3) (ix3 u o q) = slab A B x w o q := by
  unfold slab
  rw [Fin.sum_univ_four]
  pointwise [k0_pay3, k0_pay24, k0_pay25]

/-- The store of the first image. -/
theorem slab0 (s : Vec Ideal S128x8 .f32) (g h : Vec Ideal S128x4 .f32) (x : Fin 4 → Image) (w : Fin 4 → Vec Ideal S128x128 .f32) (u : Fin 1) (o : Fin 128) (q : Fin 3136) :
    k0_pay23 (k0_pay18 s g) (k0_pay19 s g h) (k0_pay20 s g h (x 0) (w 0)) (k0_pay21 s g (x 1)) (k0_pay22 s g h) (w 1) (x 2) (w 2) (x 3) (w 3) (ix3 u o q)
      = slab (k0_pay18 s g) (k0_pay19 s g h) x w o q := by
  unfold slab
  rw [Fin.sum_univ_four]
  pointwise [k0_pay23, k0_pay20, k0_pay21, k0_pay22]

/-- The scale of channel `ch` of input `j`, from the accumulator `s` and the weights `g`. -/
def scaleOf (s : Vec Ideal S128x8 .f32) (g : Vec Ideal S128x4 .f32) (ch : Fin 128) (j : Fin 4) : EReal :=
  g (ix2 ch j) * Ideal.rsqrt (s (ix2 ch ⟨4 + j.val, by omega⟩) * invCount
    - s (ix2 ch ⟨j.val, by omega⟩) * invCount * (s (ix2 ch ⟨j.val, by omega⟩) * invCount) + eps)

theorem scale_apply (s : Vec Ideal S128x8 .f32) (g : Vec Ideal S128x4 .f32) (ch : Fin 128) (j : Fin 4) :
    k0_pay18 s g (ix2 ch j) = scaleOf s g ch j := by
  pointwise [k0_pay18, k0_pay17, scaleOf]
  rfl

/-- The shift: the bias less the mean times the scale. -/
theorem shift_apply (s : Vec Ideal S128x8 .f32) (g h : Vec Ideal S128x4 .f32) (ch : Fin 128) (j : Fin 4) :
    k0_pay19 s g h (ix2 ch j) = h (ix2 ch j) - s (ix2 ch ⟨j.val, by omega⟩) * invCount * scaleOf s g ch j := by
  rw [← scale_apply]
  pointwise [k0_pay19, k0_pay17]
  rfl

end Cert.KernelIdeal.Math
-- ==== Proof.Output.lean ====
/-
  What a grid point of the second phase writes: for both images of its block, the mixed channels of the normalised and
  rectified inputs, with the scale and the shift taken from the finished accumulator.
-/
module

public import proofs.«01_k».proof.Proof.Scratch
public import proofs.«01_k».proof.Proof.Conv

@[expose] public section

set_option maxRecDepth 16384

noncomputable section

open Idealize.ShloMosaic Idealize.ShloMosaic.TcCoe Idealize.SL.Sem

namespace Cert.KernelIdeal.Math
open Cert.KernelIdeal Cert.KernelIdeal.Gen
open Cert.Norm (invCount)

/-- The shift of channel `ch` of input `j`: the bias less the mean times the scale. -/
def shiftOf (s : Vec Ideal S128x8 .f32) (g h : Vec Ideal S128x4 .f32) (ch : Fin 128) (j : Fin 4) : EReal :=
  h (ix2 ch j) - s (ix2 ch ⟨j.val, by omega⟩) * invCount * scaleOf s g ch j

/-- Image `b`, output channel `o`, pixel `q` of a block's result: over the four inputs and their 128 channels each, weight
    times rectified normalised input. -/
def conv (s : Vec Ideal S128x8 .f32) (g h : Vec Ideal S128x4 .f32) (x : Fin 4 → Block) (w : Vec Ideal S128x512 .f32)
    (b : Fin 2) (o : Fin 128) (q : Fin 3136) : EReal :=
  ∑ j : Fin 4, ∑ k : Fin 128, w (ix2 o ⟨128 * j.val + k.val, by omega⟩)
    * max (x j (ix3 b k q) * scaleOf s g k j + shiftOf s g h k j) 0

/-- Image `b` of a block. -/
abbrev image (x : Block) (b : Nat) (inb : ∀ a, ![b, 0, 0] a + ![1, 128, 3136] a ≤ S2x128x3136.size a) : Image :=
  View.ld x (Rect.unit (s := S2x128x3136) ![b, 0, 0] ![1, 128, 3136] inb)

/-- Columns `p … p + 127` of the weight matrix. -/
abbrev part (w : Vec Ideal S128x512 .f32) (p : Nat) (inb : ∀ a, ![0, p] a + ![128, 128] a ≤ S128x512.size a) : Vec Ideal S128x128 .f32 :=
  View.ld w (Rect.unit (s := S128x512) ![0, p] ![128, 128] inb)

/-- An image placed in its block. -/
theorem placeImage (b : Nat) (hb : b < 2) (inb : ∀ a, ![b, 0, 0] a + ![1, 128, 3136] a ≤ S2x128x3136.size a)
    (u : Fin 1) (o : Fin 128) (q : Fin 3136) :
    (Rect.unit (s := S2x128x3136) ![b, 0, 0] ![1, 128, 3136] inb).emb (ix3 u o q) = (ix3 ⟨b, hb⟩ o q : S2x128x3136.Idx) := by
  funext a
  apply Fin.ext
  match a with
  | ⟨0, _⟩ => show b + 1 * u.val = b; omega
  | ⟨1, _⟩ => show 0 + 1 * o.val = o.val; omega
  | ⟨2, _⟩ => show 0 + 1 * q.val = q.val; omega

/-- A slice of the weights placed in the matrix. -/
theorem placePart (p : Nat) (inb : ∀ a, ![0, p] a + ![128, 128] a ≤ S128x512.size a) (o k : Fin 128) (hp : p + k.val < 512) :
    (Rect.unit (s := S128x512) ![0, p] ![128, 128] inb).emb (ix2 o k) = (ix2 o ⟨p + k.val, hp⟩ : S128x512.Idx) := by
  funext a
  apply Fin.ext
  match a with
  | ⟨0, _⟩ => show 0 + 1 * o.val = o.val; omega
  | ⟨1, _⟩ => show p + 1 * k.val = p + k.val; omega

/-- On the images `b` of a block and the four slices of the weights, `slab` is `conv`. -/
theorem slab_eq_conv (s : Vec Ideal S128x8 .f32) (g h : Vec Ideal S128x4 .f32) (x : Fin 4 → Block) (w : Vec Ideal S128x512 .f32)
    (b : Nat) (hb : b < 2) (inb : ∀ a, ![b, 0, 0] a + ![1, 128, 3136] a ≤ S2x128x3136.size a)
    (i0 : ∀ a, ![0, 0] a + ![128, 128] a ≤ S128x512.size a) (i1 : ∀ a, ![0, 128] a + ![128, 128] a ≤ S128x512.size a)
    (i2 : ∀ a, ![0, 256] a + ![128, 128] a ≤ S128x512.size a) (i3 : ∀ a, ![0, 384] a + ![128, 128] a ≤ S128x512.size a)
    (o : Fin 128) (q : Fin 3136) :
    slab (k0_pay18 s g) (k0_pay19 s g h) (fun j => image (x j) b inb) ![part w 0 i0, part w 128 i1, part w 256 i2, part w 384 i3] o q
      = conv s g h x w ⟨b, hb⟩ o q := by
  unfold slab conv
  refine Finset.sum_congr rfl fun j _ => Finset.sum_congr rfl fun k _ => ?_
  have hx : (fun j => image (x j) b inb) j (ix3 0 k q) = x j (ix3 ⟨b, hb⟩ k q) := congrArg (x j) (placeImage b hb inb 0 k q)
  have hw : (![part w 0 i0, part w 128 i1, part w 256 i2, part w 384 i3] : Fin 4 → Vec Ideal S128x128 .f32) j (ix2 o k)
      = w (ix2 o ⟨128 * j.val + k.val, by omega⟩) := by
    match j with
    | ⟨0, _⟩ => exact congrArg w (placePart 0 i0 o k (by omega))
    | ⟨1, _⟩ => exact congrArg w (placePart 128 i1 o k (by omega))
    | ⟨2, _⟩ => exact congrArg w (placePart 256 i2 o k (by omega))
    | ⟨3, _⟩ => exact congrArg w (placePart 384 i3 o k (by omega))
  rw [hx, hw, scale_apply, shift_apply]
  rfl

/-- The two stores of a point of the second phase, one per image, last first. -/
abbrev stores (s : Vec Ideal S128x8 .f32) (g h : Vec Ideal S128x4 .f32) (x : Fin 4 → Block) (w : Vec Ideal S128x512 .f32) :
    List (View.Piece (Elt Ideal) S2x128x3136 .f32) :=
  [⟨Rect.unit ![1, 0, 0] ![1, 128, 3136] inb_S2x128x3136_S1x128x3136_1_0_0,
      k0_pay3 (k0_pay18 s g) (k0_pay19 s g h)
        (k0_pay24 (k0_pay18 s g) (k0_pay19 s g h)
          (image (x 0) 1 inb_S2x128x3136_S1x128x3136_1_0_0) (part w 0 inb_S128x512_S128x128_0_0)
          (image (x 1) 1 inb_S2x128x3136_S1x128x3136_1_0_0) (part w 128 inb_S128x512_S128x128_0_128))
        (k0_pay25 (k0_pay18 s g) (k0_pay19 s g h) (image (x 2) 1 inb_S2x128x3136_S1x128x3136_1_0_0))
        (part w 256 inb_S128x512_S128x128_0_256) (image (x 3) 1 inb_S2x128x3136_S1x128x3136_1_0_0)
        (part w 384 inb_S128x512_S128x128_0_384)⟩,
    ⟨Rect.unit ![0, 0, 0] ![1, 128, 3136] inb_S2x128x3136_S1x128x3136_0_0_0,
      k0_pay23 (k0_pay18 s g) (k0_pay19 s g h)
        (k0_pay20 s g h (image (x 0) 0 inb_S2x128x3136_S1x128x3136_0_0_0) (part w 0 inb_S128x512_S128x128_0_0))
        (k0_pay21 s g (image (x 1) 0 inb_S2x128x3136_S1x128x3136_0_0_0)) (k0_pay22 s g h)
        (part w 128 inb_S128x512_S128x128_0_128) (image (x 2) 0 inb_S2x128x3136_S1x128x3136_0_0_0)
        (part w 256 inb_S128x512_S128x128_0_256) (image (x 3) 0 inb_S2x128x3136_S1x128x3136_0_0_0)
        (part w 384 inb_S128x512_S128x128_0_384)⟩]

/-- The two stores leave `conv` everywhere in the block. -/
theorem stores_apply (s : Vec Ideal S128x8 .f32) (g h : Vec Ideal S128x4 .f32) (x : Fin 4 → Block) (w : Vec Ideal S128x512 .f32)
    (b : Fin 2) (o : Fin 128) (q : Fin 3136) :
    View.canon (stores s g h x w) (ix3 b o q) = conv s g h x w b o q := by
  refine View.canon_append_of_piecesOf (fun y => conv s g h x w (y 0) (y 1) (y 2)) [] (stores s g h x w) ⟨fun z => ?_, fun z => ?_, trivial⟩
    (ix3 b o q) (View.cover_of_tiledL (stores s g h x w) S1x128x3136.size (by sl_kernel_rfl) _)
  · obtain ⟨u, r, l, rfl⟩ : ∃ (u : Fin 1) (r : Fin 128) (l : Fin 3136), z = ix3 u r l := ⟨z 0, z 1, z 2, eq_ix3 z⟩
    rw [placeImage 1 (by omega)]
    exact (slab1 _ _ (fun j => image (x j) 1 inb_S2x128x3136_S1x128x3136_1_0_0)
      ![part w 0 inb_S128x512_S128x128_0_0, part w 128 inb_S128x512_S128x128_0_128, part w 256 inb_S128x512_S128x128_0_256,
        part w 384 inb_S128x512_S128x128_0_384] u r l).trans (slab_eq_conv s g h x w 1 _ _ _ _ _ _ r l)
  · obtain ⟨u, r, l, rfl⟩ : ∃ (u : Fin 1) (r : Fin 128) (l : Fin 3136), z = ix3 u r l := ⟨z 0, z 1, z 2, eq_ix3 z⟩
    rw [placeImage 0 (by omega)]
    exact (slab0 s g h (fun j => image (x j) 0 inb_S2x128x3136_S1x128x3136_0_0_0)
      ![part w 0 inb_S128x512_S128x128_0_0, part w 128 inb_S128x512_S128x128_0_128, part w 256 inb_S128x512_S128x128_0_256,
        part w 384 inb_S128x512_S128x128_0_384] u r l).trans (slab_eq_conv s g h x w 0 _ _ _ _ _ _ r l)

variable (m : (ℓ : Loc nD τ sig) → Buf (Elt Ideal) ℓ) (c : Dev nD)

/-- The output's staging buffer after a point of the second phase. -/
theorem out_apply (t : Fin cfg0.N) (h : 16 ≤ t.val) (b : Fin 2) (o : Fin 128) (q : Fin 3136) :
    (outsAt0 m c t.val t.isLt).1 (ix3 b o q)
      = conv (outsAt0 m c (t.val - 1) (by omega)).2 (iblk m c 4 t) (iblk m c 5 t) (blocks m c t.val) (iblk m c 6 t) b o q := by
  have hN : t.val < 32 := lt_of_lt_of_eq t.isLt N_0
  rw [outsAt0_C m c t (by omega) (by omega) h]
  frame_out
  simp only [read_unread_whole]
  rw [← blocks_eq]
  exact stores_apply _ _ _ ![iblk m c 0 t, iblk m c 1 t, iblk m c 2 t, iblk m c 3 t] _ b o q

end Cert.KernelIdeal.Math
-- ==== Proof.Result.lean ====
/-
  The kernel's result array, element by element, as a formula in the arguments: the sixteen points of the second phase
  write the sixteen pairs of images, each from the same finished accumulator.
-/
module

public import proofs.«01_k».proof.Proof.Output
public import Idealize.ShloMosaic.Lib.Pipeline.ValueKit.Point

@[expose] public section

set_option maxRecDepth 16384

noncomputable section

open Idealize.ShloMosaic Idealize.ShloMosaic.TcCoe Idealize.SL.Sem

namespace Cert.KernelIdeal.Math
open Cert.KernelIdeal Cert.KernelIdeal.Gen
open Cert.Norm (invCount Input PerChannel Weights chan square mean varBySquares scale mixed)

variable (m : (ℓ : Loc nD τ sig) → Buf (Elt Ideal) ℓ) (c : Dev nD)

/-- The four inputs of device `c`. -/
def inputs : Fin 4 → Input :=
  ![m ((c : Thread nD τ).loc main_arg0), m ((c : Thread nD τ).loc main_arg1), m ((c : Thread nD τ).loc main_arg2),
    m ((c : Thread nD τ).loc main_arg3)]

/-- The scale weights of device `c`. -/
def gains : PerChannel := m ((c : Thread nD τ).loc main_arg4)

/-- The biases of device `c`. -/
def biases : PerChannel := m ((c : Thread nD τ).loc main_arg5)

/-- The mixing weights of device `c`. -/
def matrix : Weights := m ((c : Thread nD τ).loc main_arg6)

/-- Which block of each array a grid point uses. -/
theorem idx : ∀ t : Fin cfg0.N, win0_0.index t = ![t.val % 16, 0, 0] ∧ win0_1.index t = ![t.val % 16, 0, 0]
    ∧ win0_2.index t = ![t.val % 16, 0, 0] ∧ win0_3.index t = ![t.val % 16, 0, 0]
    ∧ win0_4.index t = ![0, 0] ∧ win0_5.index t = ![0, 0] ∧ win0_6.index t = ![0, 0]
    ∧ win0_7.index t = ![t.val / 16 * (t.val % 16), 0, 0] :=
  (by decide +kernel : ∀ t : Fin grid0.N, _)

/-- The output is written back in the second phase only. -/
theorem flush_late : ∀ t : Fin cfg0.N, (cfg0.win 7).flush t = true → 16 ≤ t.val :=
  (by decide +kernel : ∀ t : Fin grid0.N, _)

set_option maxHeartbeats 1000000 in
/-- The blocks of the inputs at point `t` are images `2 (t mod 16)` and `2 (t mod 16) + 1`, pixel rows laid end to end. -/
theorem blocks_apply (t : Fin cfg0.N) (j : Fin 4) (b : Fin 2) (k : Fin 128) (q : Fin 3136) :
    blocks m c t.val j (ix3 b k q)
      = inputs m c j (ix4 ⟨2 * (t.val % 16) + b.val, by omega⟩ k ⟨q.val / 56, by omega⟩ ⟨q.val % 56, by omega⟩) := by
  obtain ⟨e0, e1, e2, e3, -⟩ := idx t
  rw [← blocks_eq]
  match j with
  | ⟨0, _⟩ => show iblk m c 0 t _ = (m ((c : Thread nD τ).loc main_arg0) : Input) _; blk_simp [iblk]; entry_read; pointwise; blk_ext [e0]
  | ⟨1, _⟩ => show iblk m c 1 t _ = (m ((c : Thread nD τ).loc main_arg1) : Input) _; blk_simp [iblk]; entry_read; pointwise; blk_ext [e1]
  | ⟨2, _⟩ => show iblk m c 2 t _ = (m ((c : Thread nD τ).loc main_arg2) : Input) _; blk_simp [iblk]; entry_read; pointwise; blk_ext [e2]
  | ⟨3, _⟩ => show iblk m c 3 t _ = (m ((c : Thread nD τ).loc main_arg3) : Input) _; blk_simp [iblk]; entry_read; pointwise; blk_ext [e3]

/-- The scale weights of the kernel, by channel and input. -/
theorem weight_apply (t : Fin cfg0.N) (k : Fin 128) (j : Fin 4) :
    iblk m c 4 t (ix2 k j) = gains m c (ix1 (chan j k)) := by
  obtain ⟨-, -, -, -, e, -⟩ := idx t
  unfold gains
  blk_simp [iblk]; entry_read; pointwise; blk_ext [e]

/-- The biases, likewise. -/
theorem bias_apply (t : Fin cfg0.N) (k : Fin 128) (j : Fin 4) :
    iblk m c 5 t (ix2 k j) = biases m c (ix1 (chan j k)) := by
  obtain ⟨-, -, -, -, -, e, -⟩ := idx t
  unfold biases
  blk_simp [iblk]; entry_read; pointwise; blk_ext [e]

/-- The mixing weights as a matrix. -/
theorem matrix_apply (t : Fin cfg0.N) (o : Fin 128) (k : Fin 512) :
    iblk m c 6 t (ix2 o k) = matrix m c (ix4 o k 0 0) := by
  obtain ⟨-, -, -, -, -, -, e, -⟩ := idx t
  unfold matrix
  blk_simp [iblk]; entry_read; pointwise; blk_ext [e]

/-- Pairs of images and rows of pixels put together: the channel sums of the sixteen pairs add up to the channel's total. -/
theorem sum_pairs (f : Fin 32 → Fin 56 → Fin 56 → EReal) :
    ∑ s : Fin 16, ∑ b : Fin 2, ∑ q : Fin 3136,
        f ⟨2 * (s.val % 16) + b.val, by omega⟩ ⟨q.val / 56, by omega⟩ ⟨q.val % 56, by omega⟩
      = ∑ n : Fin 32, ∑ a : Fin 56, ∑ b : Fin 56, f n a b := by
  calc _ = ∑ s : Fin 16, ∑ b : Fin 2, ∑ u : Fin 56, ∑ v : Fin 56, f ⟨2 * (s.val % 16) + b.val, by omega⟩ u v :=
        Finset.sum_congr rfl fun s _ => Finset.sum_congr rfl fun b _ =>
          Fin.sum_divmod_fin 56 (f ⟨2 * (s.val % 16) + b.val, by omega⟩)
    _ = _ := Fin.sum_mul_add_congr fun s b h => by
        refine Finset.sum_congr rfl fun u _ => Finset.sum_congr rfl fun v _ => congrArg (f · u v) (Fin.ext ?_)
        show 2 * (s.val % 16) + b.val = s.val * 2 + b.val
        omega

/-- What the accumulator holds after the first phase: sums in columns 0 to 3, sums of squares in columns 4 to 7. -/
theorem finished (n : ℕ) (hn : n < cfg0.N) (h15 : 15 ≤ n) (k : Fin 128) (j : Fin 4) :
    (outsAt0 m c n hn).2 (ix2 k ⟨j.val, by omega⟩) = Cert.Norm.total (inputs m c j) k
      ∧ (outsAt0 m c n hn).2 (ix2 k ⟨4 + j.val, by omega⟩) = Cert.Norm.total (square (inputs m c j)) k := by
  constructor
  · rw [total m c k _ n hn h15, Finset.sum_range]
    refine .trans ?_ (sum_pairs fun n a b => inputs m c j (ix4 n k a b))
    refine Finset.sum_congr rfl fun s _ => ?_
    rw [colTerm, dif_pos j.isLt, chanSum]
    exact Finset.sum_congr rfl fun b _ => Finset.sum_congr rfl fun q _ => blocks_apply m c ⟨s.val, by have := s.isLt; show s.val < 32; omega⟩ j b k q
  · rw [total m c k _ n hn h15, Finset.sum_range]
    refine .trans ?_ (sum_pairs fun n a b => square (inputs m c j) (ix4 n k a b))
    refine Finset.sum_congr rfl fun s _ => ?_
    rw [colTerm, dif_neg (by simp), chanSum]
    refine Finset.sum_congr rfl fun b _ => Finset.sum_congr rfl fun q _ => ?_
    have e : (⟨4 + j.val - 4, by omega⟩ : Fin 4) = j := Fin.ext (show 4 + j.val - 4 = j.val by omega)
    have := blocks_apply m c ⟨s.val, by have := s.isLt; show s.val < 32; omega⟩ j b k q
    simp only [sq, square, e, this]

/-- The scale of channel `k` of input `j` in the kernel. -/
def scales (j : Fin 4) (k : Fin 128) : EReal :=
  scale (gains m c (ix1 (chan j k))) (varBySquares (inputs m c j) k)

/-- The shift of channel `k` of input `j` in the kernel. -/
def shifts (j : Fin 4) (k : Fin 128) : EReal :=
  biases m c (ix1 (chan j k)) - mean (inputs m c j) k * scales m c j k

/-- The kernel's result. -/
def result : Vec Ideal S32x128x3136 .f32 := fun y =>
  mixed (scales m c) (shifts m c) (inputs m c) (matrix m c) (y 0) (y 1)
    ⟨(y 2).val / 56, by have := (y 2).isLt; change (y 2).val < 3136 at this; omega⟩ ⟨(y 2).val % 56, by omega⟩

/-- A block written in the second phase is its part of `result`. -/
theorem block_result (t : Fin cfg0.N) (h : 16 ≤ t.val) (b : Fin 2) (o : Fin 128) (q : Fin 3136) :
    (outsAt0 m c t.val t.isLt).1 (ix3 b o q) = result m c (ix3 ⟨2 * (t.val % 16) + b.val, by omega⟩ o q) := by
  have hs : ∀ j k, scaleOf (outsAt0 m c (t.val - 1) (by omega)).2 (iblk m c 4 t) k j = scales m c j k := fun j k => by
    obtain ⟨e1, e2⟩ := finished m c (t.val - 1) (by omega) (by omega) k j
    rw [scaleOf, weight_apply, e1, e2]; rfl
  have hh : ∀ j k, shiftOf (outsAt0 m c (t.val - 1) (by omega)).2 (iblk m c 4 t) (iblk m c 5 t) k j = shifts m c j k :=
    fun j k => by
      obtain ⟨e1, -⟩ := finished m c (t.val - 1) (by omega) (by omega) k j
      rw [shiftOf, bias_apply, e1, hs]; rfl
  rw [out_apply m c t h, conv, result]
  unfold mixed
  refine Finset.sum_congr rfl fun j _ => Finset.sum_congr rfl fun k _ => ?_
  rw [hs, hh, matrix_apply, blocks_apply]
  rfl

/-- The array the kernel leaves. -/
theorem final : (dats m 0 c).arrAt 7 cfg0.N = result m c := by
  refine (dats m 0 c).arrAt_eq_of_covers 7 _ (by decide +kernel) fun t hf y => ?_
  have h := flush_late t hf
  obtain ⟨-, -, -, -, -, -, -, e⟩ := idx t
  blk_simp
  rw [after0_7]
  idx_vars y
  refine (block_result m c t h _ _ _).trans (congrArg (result m c) ?_)
  have second : t.val / 16 = 1 := by have := t.isLt; change t.val < 32 at this; omega
  blk_ext [e, second]

/-- Every run of the kernel ends with `result` in its result array, the arguments unchanged. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run _ _ _).mono (fun _ h c => ⟨(h c).1.trans (final m c), (h c).2⟩) (Cert.KernelIdeal.Value.run_blocks m ρ)

end Cert.KernelIdeal.Math
-- ==== Proof.Ref.lean ====
/-
  The reference's result, element by element. The reference joins the four inputs along the channels, so its arrays
  have 512 channels; it is written out here as a composition of a few named arrays, each read at one element.
-/
module

public import proofs.«01_k».proof.Proof.Spec
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem

namespace Cert.ReferenceIdeal.Math
open Cert.ReferenceIdeal Cert.ReferenceIdeal.Gen Cert.ReferenceIdeal.Value
open Cert.Norm (Input PerChannel Weights chan invCount eps total mean square varByDistance scale mixed)

/-- An array of 32 images and all 512 channels. -/
abbrev Wide := FVec Ideal S32x512x56x56 .f32
/-- One number. -/
abbrev Scalar := FVec Ideal S_ .f32

/-- The four inputs side by side. -/
def joined (x : Fin 4 → Input) : Wide :=
  concatenate S32x512x56x56 1 [⟨S32x128x56x56, x 0⟩, ⟨S32x128x56x56, x 1⟩, ⟨S32x128x56x56, x 2⟩, ⟨S32x128x56x56, x 3⟩]
    concatenates_S32x128x56x56_S32x128x56x56_S32x128x56x56_S32x128x56x56_S32x512x56x56_d1

/-- Channel `k` of input `j` is channel `128 j + k` of the joined array. -/
theorem joined_apply (x : Fin 4 → Input) (n : Fin 32) (j : Fin 4) (k : Fin 128) (a b : Fin 56) :
    joined x (ix4 n (chan j k) a b) = x j (ix4 n k a b) := by
  match j with
  | ⟨0, _⟩ => pointwise [joined]
  | ⟨1, _⟩ => pointwise [joined]
  | ⟨2, _⟩ =>
    pointwise [joined]
    rw [dif_neg (by omega), dif_neg (by omega), dif_pos (by omega)]
    congr 2
    exact Fin.ext (by simp; omega)
  | ⟨3, _⟩ =>
    pointwise [joined]
    rw [dif_neg (by omega), dif_neg (by omega), dif_neg (by omega)]
    congr 2
    exact Fin.ext (by simp; omega)

/-- The reduction over images and pixels keeps exactly the channel. -/
theorem drop_iff (h : S32x512x56x56.ReducesTo [0, 2, 3] S512) (j : S512.Idx) (i : S32x512x56x56.Idx) :
    h.drop i = j ↔ ∃ k : Fin 32 × Fin 56 × Fin 56, (ix4 k.1 (j 0) k.2.1 k.2.2 : S32x512x56x56.Idx) = i := by
  constructor
  · intro e
    refine ⟨(i 0, i 2, i 3), ?_⟩
    subst e
    funext a
    apply Fin.ext
    match a with
    | ⟨0, _⟩ => rfl
    | ⟨1, _⟩ => rfl
    | ⟨2, _⟩ => rfl
    | ⟨3, _⟩ => rfl
  · rintro ⟨k, rfl⟩
    funext a
    apply Fin.ext
    match a with
    | ⟨0, _⟩ => rfl

/-- The sum over images and pixels, by channel. -/
def sums (y : Wide) : PerChannel :=
  Host.reduceAdd y (constant S_ .f32 0x00000000#32 : Scalar) reducesTo_S32x512x56x56_S512_d0_2_3 h_S_

theorem sums_apply (y : Wide) (ch : Fin 512) :
    sums y (ix1 ch) = ∑ n : Fin 32, ∑ a : Fin 56, ∑ b : Fin 56, y (ix4 n ch a b) := by
  pointwise [sums]
  unfold Ideal.hostReduceAdd
  rw [zero_add, Finset.sum_filter_eq_sum_of_fiber _ (fun k : Fin 32 × Fin 56 × Fin 56 => (ix4 k.1 ch k.2.1 k.2.2 : S32x512x56x56.Idx))
    (fun _ _ e => Prod.ext (congrFun e 0) (Prod.ext (congrFun e 2) (congrFun e 3))) (drop_iff _ (ix1 ch)),
    Fintype.sum_prod_type]
  exact Finset.sum_congr rfl fun n _ => Fintype.sum_prod_type _

/-- One number for each channel, spread over images and pixels. -/
def spread (v : FVec Ideal S512 .f32) : Wide :=
  broadcastInDim S32x512x56x56 ![0, 1, 2, 3] bcast_S1x512x1x1_S32x512x56x56_0_1_2_3
    (broadcastInDim S1x512x1x1 ![1] bcast_S512_S1x512x1x1_1 v)

theorem spread_apply (v : FVec Ideal S512 .f32) (n : Fin 32) (ch : Fin 512) (a b : Fin 56) :
    spread v (ix4 n ch a b) = v (ix1 ch) := by
  pointwise [spread]

/-- The same number for every channel. -/
def every (s : Scalar) : FVec Ideal S512 .f32 := broadcastInDim S512 ![] bcast_S_S512 s

/-- The number of elements of a channel. -/
def count : Scalar := constant S_ .f32 0x47C40000#32

theorem count_eq : Ideal.ofBits .f32 0x47C40000#32 = ((100352 : ℝ) : EReal) := by
  simp [Ideal.ofBits, Ideal.ieee, -EReal.coe_mul]; norm_num

/-- Dividing by the count is multiplying by its reciprocal. -/
theorem div_count (y : EReal) : Ideal.div y (Ideal.ofBits .f32 0x47C40000#32) = y * invCount := by
  rw [count_eq, Ideal.div_coe (by norm_num)]; rfl

/-- The mean of each channel. -/
def means (y : Wide) : FVec Ideal S512 .f32 := Host.divf (sums y) (every count)

theorem means_apply (y : Wide) (ch : Fin 512) : means y (ix1 ch) = sums y (ix1 ch) * invCount := by
  pointwise [means, every, count]
  exact div_count _

/-- The squared distances from the mean. -/
def distances (y : Wide) : Wide :=
  let d : Wide := subf y (broadcastInDim S32x512x56x56 ![0, 1, 2, 3] bcast_S1x512x1x1_S32x512x56x56_0_1_2_3
    (Host.divf (broadcastInDim S1x512x1x1 ![1] bcast_S512_S1x512x1x1_1 (sums y))
      (broadcastInDim S1x512x1x1 ![] bcast_S_S1x512x1x1 count)))
  mulf d d

theorem distances_apply (y : Wide) (n : Fin 32) (ch : Fin 512) (a b : Fin 56) :
    distances y (ix4 n ch a b)
      = (y (ix4 n ch a b) - means y (ix1 ch)) * (y (ix4 n ch a b) - means y (ix1 ch)) := by
  pointwise [distances, means, every, count]

/-- The number of elements less nothing, as the reference writes its divisor. -/
def divisor : Scalar := subf count (sitofp .f32 (constantI S_ 32 0#32))

/-- The variance of each channel. -/
def variances (y : Wide) : FVec Ideal S512 .f32 :=
  select (broadcastInDim S512 ![] bcast_S_S512 (cmpf .ogt divisor (constant S_ .f32 0x00000000#32)))
    (Host.divf (sums (distances y)) (every divisor)) (every (id (constant S_ .f32 0x7FC00000#32)))

theorem variances_apply (y : Wide) (ch : Fin 512) :
    variances y (ix1 ch) = sums (distances y) (ix1 ch) * invCount := by
  have zero : (FloatOps.sitofp .f32 0#32 : Ideal .f32) = 0 := by
    show ((((0#32 : BitVec 32).toInt : ℤ) : ℝ) : EReal) = 0
    simp
  pointwise [variances, every, divisor, count, zero]
  rw [if_pos (by rw [count_eq]; exact EReal.coe_pos.2 (by norm_num))]
  exact div_count _

/-- The reciprocal square root of each channel's variance. -/
def roots (y : Wide) : FVec Ideal S512 .f32 :=
  Host.rsqrt (addf (variances y) (every (constant S_ .f32 0x3727C5AC#32)))

theorem roots_apply (y : Wide) (ch : Fin 512) : roots y (ix1 ch) = Ideal.rsqrt (variances y (ix1 ch) + eps) := by
  pointwise [roots, every, eps]

/-- The normalised, scaled, shifted and rectified array. -/
def rectified (y : Wide) (g h : FVec Ideal S512 .f32) : Wide :=
  maximumf (addf (mulf y (spread (mulf g (roots y)))) (spread (subf h (mulf (mulf (means y) g) (roots y)))))
    (broadcastInDim S32x512x56x56 ![] bcast_S_S32x512x56x56 (constant S_ .f32 0x00000000#32))

theorem rectified_apply (y : Wide) (g h : FVec Ideal S512 .f32) (n : Fin 32) (ch : Fin 512) (a b : Fin 56) :
    rectified y g h (ix4 n ch a b)
      = max (y (ix4 n ch a b) * (g (ix1 ch) * roots y (ix1 ch))
          + (h (ix1 ch) - means y (ix1 ch) * g (ix1 ch) * roots y (ix1 ch))) 0 := by
  pointwise [rectified, spread_apply]

/-- The channels mixed, pixel rows laid end to end. -/
def mix (z : Wide) (w : FVec Ideal S128x512x1x1 .f32) : FVec Ideal S32x128x3136 .f32 :=
  shapeCast _ (transpose S32x128x56x56 [0, 3, 1, 2]
    (Host.dotGeneral dot_S32x512x56x56_S128x512_S32x56x56x128_1_1_023_0_n_n none z
      (shapeCast _ w shapeCasts_S128x512x1x1_S128x512)) transposes_S32x56x56x128_S32x128x56x56_0_3_1_2)
    shapeCasts_S32x128x56x56_S32x128x3136

theorem mix_apply (z : Wide) (w : FVec Ideal S128x512x1x1 .f32) (n : Fin 32) (o : Fin 128) (q : Fin 3136) :
    mix z w (ix3 n o q)
      = ∑ ch : Fin 512, z (ix4 n ch ⟨q.val / 56, by omega⟩ ⟨q.val % 56, by omega⟩) * w (ix4 o ch 0 0) := by
  pointwise [mix]

section Layer
variable (x : Fin 4 → Input) (g h : PerChannel) (w : Weights)

theorem joined_total (j : Fin 4) (k : Fin 128) : sums (joined x) (ix1 (chan j k)) = total (x j) k := by
  rw [sums_apply]
  exact Finset.sum_congr rfl fun n _ => Finset.sum_congr rfl fun a _ => Finset.sum_congr rfl fun b _ => joined_apply x n j k a b

theorem joined_mean (j : Fin 4) (k : Fin 128) : means (joined x) (ix1 (chan j k)) = mean (x j) k := by
  rw [means_apply, joined_total]; rfl

theorem joined_variance (j : Fin 4) (k : Fin 128) :
    variances (joined x) (ix1 (chan j k)) = varByDistance (x j) k := by
  rw [variances_apply, sums_apply]
  refine congrArg (· * invCount) (Finset.sum_congr rfl fun n _ => Finset.sum_congr rfl fun a _ => Finset.sum_congr rfl fun b _ => ?_)
  rw [distances_apply, joined_apply, joined_mean]
  rfl

/-- The reference's shift of channel `k` of input `j`. -/
def shiftBy (j : Fin 4) (k : Fin 128) : EReal :=
  h (ix1 (chan j k)) - mean (x j) k * g (ix1 (chan j k)) * Ideal.rsqrt (varByDistance (x j) k + eps)

/-- The reference's result, in terms of the four inputs. -/
theorem layer_apply (n : Fin 32) (o : Fin 128) (q : Fin 3136) :
    mix (rectified (joined x) g h) w (ix3 n o q)
      = mixed (fun j k => scale (g (ix1 (chan j k))) (varByDistance (x j) k)) (shiftBy x g h) x w n o
          ⟨q.val / 56, by omega⟩ ⟨q.val % 56, by omega⟩ := by
  rw [mix_apply]
  unfold mixed
  refine (Fin.sum_mul_add_congr (S := 4) (n := 128) fun j k hl => ?_).symm
  have e : (⟨j.val * 128 + k.val, hl⟩ : Fin 512) = chan j k := Fin.ext (by simp [chan]; omega)
  rw [e, rectified_apply, joined_apply, joined_mean, roots_apply, joined_variance, mul_comm]
  rfl

end Layer

variable (m : (ℓ : Loc nD τ sig) → Buf (Elt Ideal) ℓ) (c : Dev nD)

/-- The four inputs of device `c`. -/
def inputs : Fin 4 → Input :=
  ![m ((c : Thread nD τ).loc main_arg0), m ((c : Thread nD τ).loc main_arg1), m ((c : Thread nD τ).loc main_arg2),
    m ((c : Thread nD τ).loc main_arg3)]

/-- The reference's result is the composition of these arrays. -/
theorem out_eq : res_out0 m c = mix (rectified (joined (inputs m c)) (m ((c : Thread nD τ).loc main_arg4))
    (m ((c : Thread nD τ).loc main_arg5))) (m ((c : Thread nD τ).loc main_arg6)) := rfl

end Cert.ReferenceIdeal.Math
-- ==== Proof.Equation.lean ====
/-
  The two formulas for the variance agree on finite inputs, and with them the two forms of the layer.
-/
module

public import proofs.«01_k».proof.Proof.Spec
public import Mathlib.Tactic.Ring
public import Mathlib.Tactic.FieldSimp

@[expose] public section

noncomputable section

open Idealize.ShloMosaic

namespace Cert.Norm

/-- Every element is a real number. -/
def Finite (y : Input) : Prop := ∀ i, ∃ r : ℝ, y i = (r : EReal)

/-- Sums of real numbers, taken among the extended reals. -/
theorem coe_sum {ι : Type} [Fintype ι] (f : ι → ℝ) : ((∑ i, f i : ℝ) : EReal) = ∑ i, (f i : EReal) := by
  classical
  refine Finset.induction_on (Finset.univ : Finset ι) (by simp) fun a s ha ih => ?_
  rw [Finset.sum_insert ha, Finset.sum_insert ha, EReal.coe_add, ih]

/-- A channel total of real numbers is a real sum over images and pixels. -/
theorem total_coe (r : (⟨4, ![32, 128, 56, 56]⟩ : Shape).Idx → ℝ) (k : Fin 128) :
    total (fun i => (r i : EReal)) k
      = ((∑ p : Fin 32 × Fin 56 × Fin 56, r (ix4 p.1 k p.2.1 p.2.2) : ℝ) : EReal) := by
  rw [coe_sum, Fintype.sum_prod_type]
  refine Finset.sum_congr rfl fun n _ => ?_
  rw [Fintype.sum_prod_type]

/-- Among real numbers: the mean of the squares less the square of the mean is the mean of the squared distances. -/
theorem variance_real {ι : Type} [Fintype ι] (f : ι → ℝ) (hN : (Fintype.card ι : ℝ) = 100352) :
    (∑ i, f i * f i) * (1 / 100352) - (∑ i, f i) * (1 / 100352) * ((∑ i, f i) * (1 / 100352))
      = (∑ i, (f i - (∑ i, f i) * (1 / 100352)) * (f i - (∑ i, f i) * (1 / 100352))) * (1 / 100352) := by
  set μ := (∑ i, f i) * (1 / 100352) with hμ
  have hs : ∑ i, f i = 100352 * μ := by rw [hμ]; ring
  have e : ∑ i, (f i - μ) * (f i - μ) = (∑ i, f i * f i) - 2 * μ * (∑ i, f i) + 100352 * (μ * μ) := by
    rw [Finset.mul_sum, ← hN, ← nsmul_eq_mul, ← Finset.card_univ, ← Finset.sum_const, ← Finset.sum_sub_distrib,
      ← Finset.sum_add_distrib]
    exact Finset.sum_congr rfl fun i _ => by ring
  rw [e, hs]
  ring

/-- The two variances of a finite input agree. -/
theorem variance_eq (y : Input) (hy : Finite y) (k : Fin 128) : varBySquares y k = varByDistance y k := by
  choose r hr using hy
  obtain rfl : y = fun i => (r i : EReal) := funext hr
  have hm : mean (fun i => (r i : EReal)) k
      = (((∑ p : Fin 32 × Fin 56 × Fin 56, r (ix4 p.1 k p.2.1 p.2.2)) * (1 / 100352) : ℝ) : EReal) := by
    rw [mean, total_coe, invCount, ← EReal.coe_mul]
  have h2 : square (fun i => (r i : EReal)) = fun i => ((r i * r i : ℝ) : EReal) :=
    funext fun i => (EReal.coe_mul _ _).symm
  have hd : ∀ v : ℝ, (square fun i => (r i : EReal) - (v : EReal)) = fun i => (((r i - v) * (r i - v) : ℝ) : EReal) := fun v =>
    funext fun i => by rw [square, ← EReal.coe_sub, ← EReal.coe_mul]
  rw [varBySquares, varByDistance, hm, h2, hd, total_coe, total_coe, invCount, ← EReal.coe_mul, ← EReal.coe_mul,
    ← EReal.coe_mul, ← EReal.coe_sub]
  exact congrArg _ (variance_real (fun p : Fin 32 × Fin 56 × Fin 56 => r (ix4 p.1 k p.2.1 p.2.2)) (by simp))

end Cert.Norm
-- ==== Proof.Pre.lean ====
/-
  What the precondition says: every element of the four inputs is a real number.
-/
module

public import proofs.«01_k».proof.Pre_finite
public import proofs.«01_k».proof.Proof.Equation
public import proofs.«01_k».proof.Proof.Ref
public import Idealize.ShloMosaic.Lib.ReduceAll

@[expose] public section

set_option maxRecDepth 16384

noncomputable section

open Idealize.ShloMosaic

namespace Cert.Pre_finite.Math
open Cert.Pre_finite Cert.Norm

/-- The shape conditions of the precondition's operations. -/
theorem facts : Cert.Pre_finite.Facts where
  concatenates_S32x128x56x56_S32x128x56x56_S32x128x56x56_S32x128x56x56_S32x512x56x56_d1 := by decide
  bcast_S_S32x512x56x56 := by decide
  reducesTo_S32x512x56x56_S_d0_1_2_3 := by decide
  h_S_ := by decide

/-- A number strictly between the infinities is real. -/
theorem real_of_between (y : EReal) (h : IntOp.andi (Ideal.cmp .olt y ⊤) (Ideal.cmp .ogt y ⊥) = 1#1) :
    ∃ r : ℝ, y = (r : EReal) := by
  induction y with
  | bot => simp [Ideal.cmp, IntOp.andi] at h
  | coe r => exact ⟨r, rfl⟩
  | top => simp [Ideal.cmp, IntOp.andi] at h

theorem top_eq : Ideal.ofBits .f32 0x7F800000#32 = ⊤ := by simp [Ideal.ofBits, Ideal.ieee]
theorem bot_eq : Ideal.ofBits .f32 0xFF800000#32 = ⊥ := by simp [Ideal.ofBits, Ideal.ieee]

/-- Under the precondition every input is finite. -/
theorem finite (hF : Cert.Pre_finite.Facts) (x : Fin 4 → Input) (g h : PerChannel) (w : Weights)
    (e : Cert.Pre_finite.fn (F := Ideal) (x 0) (x 1) (x 2) (x 3) g h w = fun _ => 1#1) (j : Fin 4) : Finite (x j) := by
  intro i
  idx_vars i
  have hs : Subsingleton S_.Idx := ⟨fun _ _ => funext fun d => d.elim0⟩
  have := Host.reduce_andi_all _ _ _ _ (Shape.Idx.first hF.h_S_) (congrFun e _) (ix4 i0 (chan j i1) i2 i3)
  refine real_of_between _ ?_
  rw [← Cert.ReferenceIdeal.Math.joined_apply x i0 j i1 i2 i3, ← top_eq, ← bot_eq]
  exact this

end Cert.Pre_finite.Math
-- ==== Proof.lean ====
/-
  The claims about this kernel, put together. The frames of the two kernel programs are the generated ones; the
  reference's follows from its run, as it has no semaphores. `algebraic` says that the idealized kernel and the idealized
  reference leave the same array whenever every element of the four inputs is a real number.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Result
public import proofs.«01_k».proof.Proof.Ref
public import proofs.«01_k».proof.Proof.Equation
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem
open Cert.Norm (Input PerChannel Weights Finite chan scale varByDistance mixed variance_eq)

/-- The reference runs, leaves its arguments alone and every semaphore at zero. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run m ρ)

/-- The kernel's array is the reference's layer of the same arguments, if the inputs are finite. -/
theorem result_eq (m : (ℓ : Loc Cert.KernelIdeal.nD Cert.KernelIdeal.τ Cert.KernelIdeal.sig) → Buf (Elt Ideal) ℓ)
    (c : Dev Cert.KernelIdeal.nD) (hf : ∀ j, Finite (Cert.KernelIdeal.Math.inputs m c j)) :
    Cert.KernelIdeal.Math.result m c
      = Cert.ReferenceIdeal.Math.mix (Cert.ReferenceIdeal.Math.rectified
          (Cert.ReferenceIdeal.Math.joined (Cert.KernelIdeal.Math.inputs m c)) (Cert.KernelIdeal.Math.gains m c)
          (Cert.KernelIdeal.Math.biases m c)) (Cert.KernelIdeal.Math.matrix m c) := by
  have hs : Cert.KernelIdeal.Math.scales m c = fun j k =>
      scale (Cert.KernelIdeal.Math.gains m c (ix1 (chan j k))) (varByDistance (Cert.KernelIdeal.Math.inputs m c j) k) :=
    funext fun j => funext fun k => by rw [Cert.KernelIdeal.Math.scales, variance_eq _ (hf j)]
  have hb : Cert.KernelIdeal.Math.shifts m c = Cert.ReferenceIdeal.Math.shiftBy (Cert.KernelIdeal.Math.inputs m c)
      (Cert.KernelIdeal.Math.gains m c) (Cert.KernelIdeal.Math.biases m c) :=
    funext fun j => funext fun k => by
      rw [Cert.KernelIdeal.Math.shifts, hs]
      exact congrArg (HSub.hSub _) (mul_assoc _ _ _).symm
  funext y
  idx_vars y
  rw [Cert.ReferenceIdeal.Math.layer_apply, Cert.KernelIdeal.Math.result, hs, hb]
  rfl

/-- The kernel and the reference leave equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Math.facts) :=
  fun m ρ m' ρ' hpre hagree =>
    ⟨fun c => Cert.KernelIdeal.Math.result m c, Cert.KernelIdeal.Math.run m ρ,
      (θ_run _ _ _).mono (fun _ h c => ⟨(h c).1.trans (by
          obtain ⟨a0, a1, a2, a3, a4, a5, a6⟩ := hagree c
          refine (Cert.ReferenceIdeal.Math.out_eq m' c).trans ?_
          refine .trans ?_ (result_eq m c (Cert.Pre_finite.Math.finite Cert.Pre_finite.Math.facts
            (Cert.KernelIdeal.Math.inputs m c) _ _ _ (hpre c))).symm
          rw [Cert.ReferenceIdeal.Math.inputs, a0, a1, a2, a3, a4, a5, a6]
          rfl), (h c).2⟩)
        (Cert.ReferenceIdeal.Value.run m' ρ')⟩

theorem claim : Cert.Claim :=
  ⟨Cert.Kernel.Gen.facts, Cert.KernelIdeal.Gen.facts, Cert.ReferenceIdeal.Gen.facts, Cert.Pre_finite.Math.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    ⟨rfl, fun _ => rfl, rfl⟩,
    algebraic⟩

end Cert.Proof

end
